-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3x3 : Shape := ⟨3, ![4, 3, 3]⟩
abbrev S4x3 : Shape := ⟨2, ![4, 3]⟩
abbrev S4x2 : Shape := ⟨2, ![4, 2]⟩
abbrev S3x4x3 : Shape := ⟨3, ![3, 4, 3]⟩
abbrev S2x4 : Shape := ⟨2, ![2, 4]⟩
abbrev S3x1568x128 : Shape := ⟨3, ![3, 1568, 128]⟩
abbrev S4x50176x128 : Shape := ⟨3, ![4, 50176, 128]⟩
abbrev S4x784x128 : Shape := ⟨3, ![4, 784, 128]⟩
abbrev S3x112x128 : Shape := ⟨3, ![3, 112, 128]⟩
abbrev S2x7168x128 : Shape := ⟨3, ![2, 7168, 128]⟩
abbrev S2x112x128 : Shape := ⟨3, ![2, 112, 128]⟩
abbrev S1x128 : Shape := ⟨2, ![1, 128]⟩
abbrev S112x1 : Shape := ⟨2, ![112, 1]⟩
abbrev S112x128 : Shape := ⟨2, ![112, 128]⟩
abbrev S1x1 : Shape := ⟨2, ![1, 1]⟩
abbrev S1x1x1 : Shape := ⟨3, ![1, 1, 1]⟩
abbrev S3x1x1 : Shape := ⟨3, ![3, 1, 1]⟩
abbrev S1x112x1 : Shape := ⟨3, ![1, 112, 1]⟩
abbrev S3x112x1 : Shape := ⟨3, ![3, 112, 1]⟩
abbrev S1x112x128 : Shape := ⟨3, ![1, 112, 128]⟩
abbrev S1x1x128 : Shape := ⟨3, ![1, 1, 128]⟩
abbrev S3x392x4x128 : Shape := ⟨4, ![3, 392, 4, 128]⟩
abbrev S4x392x128x3 : Shape := ⟨4, ![4, 392, 128, 3]⟩
abbrev S4x50176x3 : Shape := ⟨3, ![4, 50176, 3]⟩
abbrev S4x392x2x128 : Shape := ⟨4, ![4, 392, 2, 128]⟩
abbrev S4x392x128x2 : Shape := ⟨4, ![4, 392, 128, 2]⟩
abbrev S4x50176x2 : Shape := ⟨3, ![4, 50176, 2]⟩

abbrev nBuf : Space → Nat
  | .hbm => 20
  | .vmem => 12
  | .smem => 0
  | _ => 0

abbrev bufTy : (tb : Table) → Fin (tcTables nBuf tb) → BufTy
  | .hbm, ⟨0, _⟩ => ⟨S4x3x3, .f32⟩
  | .hbm, ⟨1, _⟩ => ⟨S4x3, .f32⟩
  | .hbm, ⟨2, _⟩ => ⟨S4x2, .f32⟩
  | .hbm, ⟨3, _⟩ => ⟨S4x2, .f32⟩
  | .hbm, ⟨4, _⟩ => ⟨S3x4x3, .f32⟩
  | .hbm, ⟨5, _⟩ => ⟨S2x4, .f32⟩
  | .hbm, ⟨6, _⟩ => ⟨S2x4, .f32⟩
  | .hbm, ⟨7, _⟩ => ⟨S3x1568x128, .f32⟩
  | .hbm, ⟨8, _⟩ => ⟨S3x1568x128, .f32⟩
  | .hbm, ⟨9, _⟩ => ⟨S4x50176x128, .f32⟩
  | .hbm, ⟨10, _⟩ => ⟨S4x784x128, .f32⟩
  | .hbm, ⟨11, _⟩ => ⟨S3x392x4x128, .f32⟩
  | .hbm, ⟨12, _⟩ => ⟨S4x392x128x3, .f32⟩
  | .hbm, ⟨13, _⟩ => ⟨S4x50176x3, .f32⟩
  | .hbm, ⟨14, _⟩ => ⟨S3x392x4x128, .f32⟩
  | .hbm, ⟨15, _⟩ => ⟨S4x392x128x3, .f32⟩
  | .hbm, ⟨16, _⟩ => ⟨S4x50176x3, .f32⟩
  | .hbm, ⟨17, _⟩ => ⟨S4x392x2x128, .f32⟩
  | .hbm, ⟨18, _⟩ => ⟨S4x392x128x2, .f32⟩
  | .hbm, ⟨19, _⟩ => ⟨S4x50176x2, .f32⟩
  | .local _ .vmem, ⟨0, _⟩ => ⟨S3x4x3, .f32⟩
  | .local _ .vmem, ⟨1, _⟩ => ⟨S4x3, .f32⟩
  | .local _ .vmem, ⟨2, _⟩ => ⟨S2x4, .f32⟩
  | .local _ .vmem, ⟨3, _⟩ => ⟨S2x4, .f32⟩
  | .local _ .vmem, ⟨4, _⟩ => ⟨S3x112x128, .f32⟩
  | .local _ .vmem, ⟨5, _⟩ => ⟨S3x112x128, .f32⟩
  | .local _ .vmem, ⟨6, _⟩ => ⟨S3x112x128, .f32⟩
  | .local _ .vmem, ⟨7, _⟩ => ⟨S3x112x128, .f32⟩
  | .local _ .vmem, ⟨8, _⟩ => ⟨S2x7168x128, .f32⟩
  | .local _ .vmem, ⟨9, _⟩ => ⟨S2x7168x128, .f32⟩
  | .local _ .vmem, ⟨10, _⟩ => ⟨S2x112x128, .f32⟩
  | .local _ .vmem, ⟨11, _⟩ => ⟨S2x112x128, .f32⟩
  | _, _ => ⟨S4x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![14], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 1 → Memref sig .tc .vmem S3x4x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x112x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x112x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x7168x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x112x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x3x3 : Shape := ⟨3, ![4, 3, 3]⟩
abbrev S4x3 : Shape := ⟨2, ![4, 3]⟩
abbrev S4x2 : Shape := ⟨2, ![4, 2]⟩
abbrev S_ : Shape := ⟨0, ![]⟩
abbrev S223 : Shape := ⟨1, ![223]⟩
abbrev S1 : Shape := ⟨1, ![1]⟩
abbrev S224 : Shape := ⟨1, ![224]⟩
abbrev S224x224 : Shape := ⟨2, ![224, 224]⟩
abbrev S224x224x1 : Shape := ⟨3, ![224, 224, 1]⟩
abbrev S224x224x2 : Shape := ⟨3, ![224, 224, 2]⟩
abbrev S127 : Shape := ⟨1, ![127]⟩
abbrev S128 : Shape := ⟨1, ![128]⟩
abbrev S4x1 : Shape := ⟨2, ![4, 1]⟩
abbrev S4 : Shape := ⟨1, ![4]⟩
abbrev S4x1x1 : Shape := ⟨3, ![4, 1, 1]⟩
abbrev S1x224x224 : Shape := ⟨3, ![1, 224, 224]⟩
abbrev S4x224x224 : Shape := ⟨3, ![4, 224, 224]⟩
abbrev S4x224x224x1 : Shape := ⟨4, ![4, 224, 224, 1]⟩
abbrev S4x224x224x3 : Shape := ⟨4, ![4, 224, 224, 3]⟩
abbrev S4x1x1x3 : Shape := ⟨4, ![4, 1, 1, 3]⟩
abbrev S1x1x1x128 : Shape := ⟨4, ![1, 1, 1, 128]⟩
abbrev S4x224x224x128 : Shape := ⟨4, ![4, 224, 224, 128]⟩
abbrev S1x224x224x2 : Shape := ⟨4, ![1, 224, 224, 2]⟩
abbrev S4x224x224x2 : Shape := ⟨4, ![4, 224, 224, 2]⟩
abbrev S4x50176x3 : Shape := ⟨3, ![4, 50176, 3]⟩
abbrev S4x50176x128 : Shape := ⟨3, ![4, 50176, 128]⟩
abbrev S4x50176x2 : Shape := ⟨3, ![4, 50176, 2]⟩

abbrev nBuf : Space → Nat
  | .hbm => 129
  | .vmem => 0
  | .smem => 0
  | _ => 0

abbrev hbmTy0_0 (i : Nat) : BufTy := match i % 128 with
  | 0 => ⟨S4x3x3, .f32⟩
  | 1 => ⟨S4x3, .f32⟩
  | 2 => ⟨S4x2, .f32⟩
  | 3 => ⟨S4x2, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S223, .f32⟩
  | 12 => ⟨S_, .f32⟩
  | 13 => ⟨S223, .f32⟩
  | 14 => ⟨S223, .f32⟩
  | 15 => ⟨S1, .f32⟩
  | 16 => ⟨S_, .f32⟩
  | 17 => ⟨S223, .f32⟩
  | 18 => ⟨S223, .f32⟩
  | 19 => ⟨S223, .f32⟩
  | 20 => ⟨S223, .f32⟩
  | 21 => ⟨S1, .f32⟩
  | 22 => ⟨S223, .f32⟩
  | 23 => ⟨S223, .f32⟩
  | 24 => ⟨S223, .f32⟩
  | 25 => ⟨S1, .f32⟩
  | 26 => ⟨S224, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S223, .f32⟩
  | 35 => ⟨S_, .f32⟩
  | 36 => ⟨S223, .f32⟩
  | 37 => ⟨S223, .f32⟩
  | 38 => ⟨S1, .f32⟩
  | 39 => ⟨S_, .f32⟩
  | 40 => ⟨S223, .f32⟩
  | 41 => ⟨S223, .f32⟩
  | 42 => ⟨S223, .f32⟩
  | 43 => ⟨S223, .f32⟩
  | 44 => ⟨S1, .f32⟩
  | 45 => ⟨S223, .f32⟩
  | 46 => ⟨S223, .f32⟩
  | 47 => ⟨S223, .f32⟩
  | 48 => ⟨S1, .f32⟩
  | 49 => ⟨S224, .f32⟩
  | 50 => ⟨S224x224, .f32⟩
  | 51 => ⟨S224x224, .f32⟩
  | 52 => ⟨S224x224x1, .f32⟩
  | 53 => ⟨S224x224x1, .f32⟩
  | 54 => ⟨S224x224x2, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S127, .f32⟩
  | 63 => ⟨S_, .f32⟩
  | 64 => ⟨S127, .f32⟩
  | 65 => ⟨S127, .f32⟩
  | 66 => ⟨S1, .f32⟩
  | 67 => ⟨S_, .f32⟩
  | 68 => ⟨S127, .f32⟩
  | 69 => ⟨S127, .f32⟩
  | 70 => ⟨S127, .f32⟩
  | 71 => ⟨S127, .f32⟩
  | 72 => ⟨S1, .f32⟩
  | 73 => ⟨S127, .f32⟩
  | 74 => ⟨S127, .f32⟩
  | 75 => ⟨S127, .f32⟩
  | 76 => ⟨S1, .f32⟩
  | 77 => ⟨S128, .f32⟩
  | 78 => ⟨S4x1, .f32⟩
  | 79 => ⟨S4, .f32⟩
  | 80 => ⟨S4x1x1, .f32⟩
  | 81 => ⟨S4x1, .f32⟩
  | 82 => ⟨S4, .f32⟩
  | 83 => ⟨S4x1x1, .f32⟩
  | 84 => ⟨S4x1, .f32⟩
  | 85 => ⟨S4, .f32⟩
  | 86 => ⟨S4x1x1, .f32⟩
  | 87 => ⟨S4x1, .f32⟩
  | 88 => ⟨S4, .f32⟩
  | 89 => ⟨S4x1x1, .f32⟩
  | 90 => ⟨S224x224x1, .f32⟩
  | 91 => ⟨S224x224, .f32⟩
  | 92 => ⟨S1x224x224, .f32⟩
  | 93 => ⟨S4x224x224, .f32⟩
  | 94 => ⟨S4x224x224, .f32⟩
  | 95 => ⟨S4x224x224, .f32⟩
  | 96 => ⟨S4x224x224, .f32⟩
  | 97 => ⟨S4x224x224, .f32⟩
  | 98 => ⟨S224x224x1, .f32⟩
  | 99 => ⟨S224x224, .f32⟩
  | 100 => ⟨S1x224x224, .f32⟩
  | 101 => ⟨S4x224x224, .f32⟩
  | 102 => ⟨S4x224x224, .f32⟩
  | 103 => ⟨S4x224x224, .f32⟩
  | 104 => ⟨S4x224x224, .f32⟩
  | 105 => ⟨S4x224x224, .f32⟩
  | 106 => ⟨S_, .f32⟩
  | 107 => ⟨S4x224x224, .f32⟩
  | 108 => ⟨S4x224x224x1, .f32⟩
  | 109 => ⟨S4x224x224x1, .f32⟩
  | 110 => ⟨S4x224x224x1, .f32⟩
  | 111 => ⟨S4x224x224x3, .f32⟩
  | 112 => ⟨S4x224x224x3, .f32⟩
  | 113 => ⟨S4x3, .f32⟩
  | 114 => ⟨S4x3, .f32⟩
  | 115 => ⟨S4x1x1x3, .f32⟩
  | 116 => ⟨S4x224x224x3, .f32⟩
  | 117 => ⟨S4x224x224x1, .f32⟩
  | 118 => ⟨S4x224x224x1, .f32⟩
  | 119 => ⟨S4x224x224x3, .f32⟩
  | 120 => ⟨S4x224x224x3, .f32⟩
  | 121 => ⟨S1x1x1x128, .f32⟩
  | 122 => ⟨S4x224x224x128, .f32⟩
  | 123 => ⟨S1x224x224x2, .f32⟩
  | 124 => ⟨S4x224x224x2, .f32⟩
  | 125 => ⟨S4x50176x3, .f32⟩
  | 126 => ⟨S4x50176x3, .f32⟩
  | 127 => ⟨S4x50176x128, .f32⟩
  | _ => ⟨S4x3x3, .f32⟩

abbrev hbmTy0_1 (i : Nat) : BufTy := match i % 128 with
  | 0 => ⟨S4x50176x2, .f32⟩
  | _ => ⟨S4x3x3, .f32⟩

abbrev hbmTy (i : Nat) : BufTy := match i / 128 with
  | 0 => hbmTy0_0 i
  | 1 => hbmTy0_1 i
  | _ => ⟨S4x3x3, .f32⟩

abbrev bufTy : (tb : Table) → Fin (tcTables nBuf tb) → BufTy
  | .hbm, ⟨i, _⟩ => hbmTy i
  | _, _ => ⟨S4x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v0 : Ref sig .tc := ⟨.hbm, 26, rfl⟩
abbrev main_cst_1 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_cst : Ref sig .tc := ⟨.hbm, 32, rfl⟩
abbrev main_call1_v3 : Ref sig .tc := ⟨.hbm, 33, rfl⟩
abbrev main_call1_v4 : Ref sig .tc := ⟨.hbm, 34, rfl⟩
abbrev main_call1_cst_0 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_cst_1 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_v15 : Ref sig .tc := ⟨.hbm, 47, rfl⟩
abbrev main_call1_v16 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_cst_3 : Ref sig .tc := ⟨.hbm, 55, rfl⟩
abbrev main_cst_4 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_cst : Ref sig .tc := ⟨.hbm, 60, rfl⟩
abbrev main_call2_v3 : Ref sig .tc := ⟨.hbm, 61, rfl⟩
abbrev main_call2_v4 : Ref sig .tc := ⟨.hbm, 62, rfl⟩
abbrev main_call2_cst_0 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_cst_1 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_v15 : Ref sig .tc := ⟨.hbm, 75, rfl⟩
abbrev main_call2_v16 : Ref sig .tc := ⟨.hbm, 76, rfl⟩
abbrev main_v7 : Ref sig .tc := ⟨.hbm, 77, rfl⟩
abbrev main_v8 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_cst_5 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩

abbrev nD : Nat := 1
abbrev τ : Topo := Topo.v7x

variable {F : FTy → Type} [FloatOps F]
-- ==== Proof.Words.lean ====
module
public import Idealize.ShloMosaic.Lib.Pipeline.ValueKit
public import Idealize.ShloMosaic.Lib.Pointwise

/-! The integer arithmetic of the kernel, as arithmetic of natural numbers, and the two number facts
    the rest needs: the words of 0, 1, -1 and 223, and one pixel coordinate. -/

@[expose] public section
set_option maxRecDepth 16384
noncomputable section
namespace Cert.Rays
open Idealize.ShloMosaic

/-- The word of `1.0` is the number 1. -/
theorem ofBits_one : Ideal.ofBits .f32 0x3F800000#32 = 1 := by
  simp [Ideal.ofBits, Ideal.ieee, -EReal.coe_mul]; norm_num

/-- The word of `-1.0` is the number -1. -/
theorem ofBits_neg_one : Ideal.ofBits .f32 0xBF800000#32 = ((-1 : ℝ) : EReal) := by
  simp [Ideal.ofBits, Ideal.ieee, -EReal.coe_mul]; norm_num

/-- The word of `223.0` is the number 223. -/
theorem ofBits_223 : Ideal.ofBits .f32 0x435F0000#32 = ((223 : ℝ) : EReal) := by
  simp [Ideal.ofBits, Ideal.ieee, -EReal.coe_mul]; norm_num

/-- The coordinate of pixel row or column `k` of 224, evenly spaced from -1 to 1. -/
def ndc (k : ℕ) : EReal := ((2 * (k : ℝ) / 223 - 1 : ℝ) : EReal)

/-- A small natural number, carried in a 32-bit word, converts to itself. -/
theorem toInt_ofNat {k : ℕ} (h : k < 2 ^ 31) : (BitVec.ofNat 32 k).toInt = (k : ℤ) := by
  rw [BitVec.toInt_eq_toNat_of_lt (by simp; omega)]
  simp; omega

/-- A sum of words holding natural numbers. -/
theorem word_add (a b : ℕ) : BitVec.ofNat 32 a + BitVec.ofNat 32 b = BitVec.ofNat 32 (a + b) := by
  exact (BitVec.ofNat_add a b).symm

/-- A product of words holding natural numbers. -/
theorem word_mul (a b : ℕ) : BitVec.ofNat 32 a * BitVec.ofNat 32 b = BitVec.ofNat 32 (a * b) :=
  (BitVec.ofNat_mul a b).symm

/-- A small natural number, carried in a 32-bit word, is the real number it names once converted. -/
theorem sitofp_nat (k : ℕ) (h : k < 2 ^ 31) :
    (FloatOps.sitofp (F := Ideal) .f32 (BitVec.ofNat 32 k) : EReal) = ((k : ℝ) : EReal) := by
  show (((BitVec.ofNat 32 k).toInt : ℝ) : EReal) = _
  rw [toInt_ofNat h]; norm_cast

/-- The kernel's coordinate of a pixel: 1 at the last one, `t - (1 - t)` with `t = k / 223` elsewhere. -/
theorem ndc_kernel (k : ℕ) (h : k < 2 ^ 31) :
    Scalar.select (IntOp.cmpi .eq (BitVec.ofNat 32 k) 223#32) (1 : EReal)
      (Ideal.div (FloatOps.sitofp (F := Ideal) .f32 (BitVec.ofNat 32 k)) (Ideal.ofBits .f32 0x435F0000#32) -
        (1 - Ideal.div (FloatOps.sitofp (F := Ideal) .f32 (BitVec.ofNat 32 k)) (Ideal.ofBits .f32 0x435F0000#32)))
      = ndc k := by
  have hd : Ideal.div ((k : ℝ) : EReal) ((223 : ℝ) : EReal) = (((k : ℝ) / 223 : ℝ) : EReal) := by
    rw [Ideal.div_coe (by norm_num), ← EReal.coe_mul, mul_one_div]
  rw [sitofp_nat k h, ofBits_223, hd]
  have h1 : (1 : EReal) = ((1 : ℝ) : EReal) := by norm_cast
  rw [h1, ← EReal.coe_sub, ← EReal.coe_sub]
  unfold ndc
  by_cases hk : k = 223
  · subst hk
    rw [show IntOp.cmpi .eq (BitVec.ofNat 32 223) 223#32 = 1 by decide]
    simp only [Scalar.select, if_true]
    congr 1; norm_num
  · have hw : IntOp.cmpi .eq (BitVec.ofNat 32 k) 223#32 = 0 := by
      have : BitVec.ofNat 32 k ≠ 223#32 := by
        intro hh
        have := congrArg BitVec.toNat hh
        simp at this; omega
      simp only [IntOp.cmpi, beq_eq_false_iff_ne.mpr this]
      rfl
    rw [hw]
    simp only [Scalar.select]
    rw [if_neg (by decide)]
    congr 1; ring

/-- The word of a grid row: local row `j` of step `g`. -/
theorem row_word (j g : ℕ) :
    IntOp.addi (BitVec.ofNat 32 j) (Scalar.muli (112#32) (BitVec.ofNat 32 g)) = BitVec.ofNat 32 (j + 112 * g) := by
  show BitVec.ofNat 32 j + BitVec.ofNat 32 112 * BitVec.ofNat 32 g = _
  rw [word_mul, word_add]

/-- The low two bits. -/
theorem low_two (n : ℕ) : IntOp.andi (BitVec.ofNat 32 n) 3#32 = BitVec.ofNat 32 (n % 4) := by
  apply BitVec.eq_of_toNat_eq
  show ((BitVec.ofNat 32 n) &&& 3#32).toNat = _
  rw [BitVec.toNat_and, BitVec.toNat_ofNat, BitVec.toNat_ofNat, BitVec.toNat_ofNat]
  show n % 2 ^ 32 &&& (2 ^ 2 - 1) = n % 4 % 2 ^ 32
  rw [Nat.and_two_pow_sub_one_eq_mod]; omega

/-- The low bit. -/
theorem low_one (n : ℕ) : IntOp.andi (BitVec.ofNat 32 n) 1#32 = BitVec.ofNat 32 (n % 2) := by
  apply BitVec.eq_of_toNat_eq
  show ((BitVec.ofNat 32 n) &&& 1#32).toNat = _
  rw [BitVec.toNat_and, BitVec.toNat_ofNat, BitVec.toNat_ofNat, BitVec.toNat_ofNat]
  show n % 2 ^ 32 &&& (2 ^ 1 - 1) = n % 2 % 2 ^ 32
  rw [Nat.and_two_pow_sub_one_eq_mod]; omega

/-- A shift right of a non-negative word divides by the power of two. -/
theorem shr_word {n : ℕ} (h : n < 2 ^ 31) (k : ℕ) (hk : k < 32) :
    IntOp.shrsi .vector (BitVec.ofNat 32 n) (BitVec.ofNat 32 k) = BitVec.ofNat 32 (n / 2 ^ k) := by
  have hk' : (BitVec.ofNat 32 k).toNat = k := by simp; omega
  have hn : (BitVec.ofNat 32 n).toNat = n := by simp; omega
  unfold IntOp.shrsi
  rw [if_pos (by rw [hk']; exact hk)]
  rw [BitVec.sshiftRight', hk', BitVec.sshiftRight_eq_of_msb_false (by simp [BitVec.msb_eq_decide]; omega)]
  apply BitVec.eq_of_toNat_eq
  rw [BitVec.toNat_ushiftRight, hn, Nat.shiftRight_eq_div_pow, BitVec.toNat_ofNat, Nat.mod_eq_of_lt]
  exact lt_of_le_of_lt (Nat.div_le_self _ _) (by omega)

/-- A shift left by seven multiplies by 128. -/
theorem shl_word (n : ℕ) : IntOp.shli .vector (BitVec.ofNat 32 n) 7#32 = BitVec.ofNat 32 (128 * n) := by
  unfold IntOp.shli
  rw [if_pos (by decide)]
  apply BitVec.eq_of_toNat_eq
  simp [Nat.shiftLeft_eq]; omega

/-- The pixel row of pixel `n` of a 224 by 224 image, as the kernel divides: `n / 32` times 9363, over 65536. -/
theorem div_word {n : ℕ} (h : n < 50176) :
    IntOp.shrsi .vector (IntOp.muli (IntOp.shrsi .vector (BitVec.ofNat 32 n) 5#32) 9363#32) 16#32
      = BitVec.ofNat 32 (n / 224) := by
  rw [show (5#32) = BitVec.ofNat 32 5 from rfl, shr_word (by omega) 5 (by omega)]
  rw [show IntOp.muli (BitVec.ofNat 32 (n / 2 ^ 5)) 9363#32 = BitVec.ofNat 32 (n / 2 ^ 5 * 9363) from word_mul _ _]
  rw [show (16#32) = BitVec.ofNat 32 16 from rfl, shr_word (by omega) 16 (by omega)]
  congr 1
  omega

/-- The pixel column: what is left of the pixel number. -/
theorem mod_word {n : ℕ} (h : n < 50176) :
    IntOp.subi (BitVec.ofNat 32 n) (IntOp.muli (BitVec.ofNat 32 (n / 224)) 224#32) = BitVec.ofNat 32 (n % 224) := by
  rw [show IntOp.muli (BitVec.ofNat 32 (n / 224)) 224#32 = BitVec.ofNat 32 (n / 224 * 224) from word_mul _ _]
  show BitVec.ofNat 32 n - BitVec.ofNat 32 _ = _
  apply BitVec.eq_of_toNat_eq
  simp; omega

/-- The kernel's step number within one pair of images, `g % 7`. -/
theorem step_word : ∀ g : Fin 14,
    Scalar.select (Scalar.andi (Scalar.xori
        (Scalar.cmpi .slt (Scalar.remsi (BitVec.ofNat 32 g.val) (Scalar.select (Scalar.cmpi .eq 7#32 0#32) 1#32 7#32)) 0#32)
        (Scalar.cmpi .slt (Scalar.select (Scalar.cmpi .eq 7#32 0#32) 1#32 7#32) 0#32))
        (Scalar.cmpi .ne (Scalar.remsi (BitVec.ofNat 32 g.val) (Scalar.select (Scalar.cmpi .eq 7#32 0#32) 1#32 7#32)) 0#32))
      (Scalar.addi (Scalar.remsi (BitVec.ofNat 32 g.val) (Scalar.select (Scalar.cmpi .eq 7#32 0#32) 1#32 7#32))
        (Scalar.select (Scalar.cmpi .eq 7#32 0#32) 1#32 7#32))
      (Scalar.remsi (BitVec.ofNat 32 g.val) (Scalar.select (Scalar.cmpi .eq 7#32 0#32) 1#32 7#32))
      = BitVec.ofNat 32 (g.val % 7) := by
  decide +kernel

/-- A choice among four by comparing a word with 0, 1, 2 is the entry the word names. -/
theorem pick4 {α : Type} (f : Fin 4 → α) (b : Fin 4) :
    Scalar.select (IntOp.cmpi .eq (BitVec.ofNat 32 b.val) 0#32) (f 0)
      (Scalar.select (IntOp.cmpi .eq (BitVec.ofNat 32 b.val) 1#32) (f 1)
        (Scalar.select (IntOp.cmpi .eq (BitVec.ofNat 32 b.val) 2#32) (f 2) (f 3))) = f b := by
  revert b
  rw [Fin.forall_fin_succ, Fin.forall_fin_succ, Fin.forall_fin_succ, Fin.forall_fin_succ]
  exact ⟨rfl, rfl, rfl, rfl, fun i => i.elim0⟩

/-- A choice among three by comparing a word with 0 and 1 is the entry the word names. -/
theorem pick3 {α : Type} (f : Fin 3 → α) (c : Fin 3) :
    Scalar.select (IntOp.cmpi .eq (BitVec.ofNat 32 c.val) 0#32) (f 0)
      (Scalar.select (IntOp.cmpi .eq (BitVec.ofNat 32 c.val) 1#32) (f 1) (f 2)) = f c := by
  revert c
  rw [Fin.forall_fin_succ, Fin.forall_fin_succ, Fin.forall_fin_succ]
  exact ⟨rfl, rfl, rfl, fun i => i.elim0⟩

end Cert.Rays
-- ==== Proof.Formula.lean ====
module
public import proofs.«01_k».proof.Proof.Words

/-! What the four results are, at one image, pixel and component: the formulas both programs meet.
    The cameras come as functions of the image `b`: rotation `R b i k`, translation `T b k`, focal
    length `f b k` and principal point `p b k`. Pixel `n` of a 224 by 224 image has row `n / 224` and
    column `n % 224`. -/

@[expose] public section
noncomputable section
namespace Cert.Rays
open Idealize.ShloMosaic

/-- The camera centre of image `b`, component `i`: minus the product of `T` with the transpose of `R`. -/
def center (R : Fin 4 → Fin 3 → Fin 3 → EReal) (T : Fin 4 → Fin 3 → EReal) (b : Fin 4) (i : Fin 3) : EReal :=
  -(R b i 0 * T b 0 + R b i 1 * T b 1 + R b i 2 * T b 2)

/-- The horizontal camera coordinate of pixel `n` of image `b` at depth one. -/
def camX (f p : Fin 4 → Fin 2 → EReal) (b : Fin 4) (n : ℕ) : EReal :=
  Ideal.div (ndc (n % 224) - p b 0) (f b 0)

/-- The vertical camera coordinate of pixel `n` of image `b` at depth one. -/
def camY (f p : Fin 4 → Fin 2 → EReal) (b : Fin 4) (n : ℕ) : EReal :=
  Ideal.div (ndc (n / 224) - p b 1) (f b 1)

/-- The rotated camera ray through pixel `n` of image `b`, component `i`, before the division. -/
def rotated (R : Fin 4 → Fin 3 → Fin 3 → EReal) (f p : Fin 4 → Fin 2 → EReal) (b : Fin 4) (n : ℕ) (i : Fin 3) :
    EReal :=
  camX f p b n * R b i 0 + (camY f p b n * R b i 1 + R b i 2)

/-- The direction: the rotated ray over the absolute value of its first component. -/
def direction (R : Fin 4 → Fin 3 → Fin 3 → EReal) (f p : Fin 4 → Fin 2 → EReal) (b : Fin 4) (n : ℕ) (i : Fin 3) :
    EReal :=
  Ideal.div (rotated R f p b n i) (FloatOps.absf (F := Ideal) (φ := .f32) (rotated R f p b n 0))

/-- The sampled depth `k` of 128: the last is 8, the others `0.1 * (1 - t) + 8 * t` with `t = k / 127`. -/
def depth (k : ℕ) : EReal :=
  if k = 127 then Ideal.ofBits .f32 0x41000000#32
  else Ideal.ofBits .f32 0x3DCCCCCD#32 * (1 - Ideal.div ((k : ℝ) : EReal) (Ideal.ofBits .f32 0x42FE0000#32))
    + Ideal.ofBits .f32 0x41000000#32 * Ideal.div ((k : ℝ) : EReal) (Ideal.ofBits .f32 0x42FE0000#32)

/-- The coordinates of pixel `n`: the column's first, then the row's. -/
def coord (n : ℕ) (c : Fin 2) : EReal := if c = 0 then ndc (n % 224) else ndc (n / 224)

/-- The rotations, read by image, row and column. -/
def arg3 (a : FVec Ideal ⟨3, ![4, 3, 3]⟩ .f32) (b : Fin 4) (i k : Fin 3) : EReal := a (ix3 b i k)
/-- A camera argument of two axes, read by image and component. -/
def arg2 {d : ℕ} (a : FVec Ideal ⟨2, ![4, d]⟩ .f32) (b : Fin 4) (k : Fin d) : EReal := a (ix2 b k)

/-- The first result: the origin of every ray, the centre of its image's camera. -/
def origins (R : FVec Ideal ⟨3, ![4, 3, 3]⟩ .f32) (T : FVec Ideal ⟨2, ![4, 3]⟩ .f32) :
    FVec Ideal ⟨3, ![4, 50176, 3]⟩ .f32 := fun y => center (arg3 R) (arg2 T) (y 0) (y 2)

/-- The second result: the direction of every ray. -/
def directions (R : FVec Ideal ⟨3, ![4, 3, 3]⟩ .f32) (f p : FVec Ideal ⟨2, ![4, 2]⟩ .f32) :
    FVec Ideal ⟨3, ![4, 50176, 3]⟩ .f32 := fun y => direction (arg3 R) (arg2 f) (arg2 p) (y 0) (y 1).val (y 2)

/-- The third result: the sampled depths along every ray. -/
def lengths : FVec Ideal ⟨3, ![4, 50176, 128]⟩ .f32 := fun y => depth (y 2).val

/-- The fourth result: the coordinates of every pixel. -/
def coords : FVec Ideal ⟨3, ![4, 50176, 2]⟩ .f32 := fun y => coord (y 1).val (y 2)

end Cert.Rays
-- ==== Proof.Blocks.lean ====
module
public import proofs.«01_k».proof.Proof.Gen.KernelIdeal.Frame
public import proofs.«01_k».proof.Proof.Formula

/-! The block each grid step writes, at one of its entries: step `i` holds rows `112 * i` to
    `112 * i + 111` of a table whose row `r` is chunk `r / 4` of 128 pixels of image `r % 4`. -/

@[expose] public section
set_option maxRecDepth 16384
noncomputable section
namespace Cert.KernelIdeal.Rays
open Cert.KernelIdeal Cert.KernelIdeal.Gen Cert.Rays
open Idealize.ShloMosaic Idealize.ShloMosaic.TcCoe Idealize.SL.Sem

/-- The image a table row belongs to. -/
def img (r : ℕ) : Fin 4 := ⟨r % 4, by omega⟩

/-- The word the kernel chooses by: the row's image. -/
theorem pay3_at (i : grid0.Coords) (g : ℕ) (hg : (i 0).val = g) (j : Fin 112) (z : Fin 1) :
    k0_pay3 i (ix2 j z) = BitVec.ofNat 32 (img (j.val + 112 * g)).val := by
  subst hg
  pointwise [k0_pay3, k0_pay2]
  rw [row_word, low_two]; rfl

/-- The pixel number's word. -/
theorem pay4_at (i : grid0.Coords) (g : ℕ) (hg : (i 0).val = g) (j : Fin 112) (l : Fin 128) :
    k0_pay4 i (ix2 j l) = BitVec.ofNat 32 (128 * ((j.val + 112 * g) / 4) + l.val)  := by
  have hi : (i 0).val < 14 := (i 0).isLt
  subst hg
  pointwise [k0_pay4, k0_pay2]
  rw [row_word, show (2#32) = BitVec.ofNat 32 2 from rfl, shr_word (by omega) 2 (by omega), shl_word]
  exact word_add _ _

/-- The pixel row's word. -/
theorem pay5_at (i : grid0.Coords) (g : ℕ) (hg : (i 0).val = g) (j : Fin 112) (l : Fin 128) :
    k0_pay5 i (ix2 j l) = BitVec.ofNat 32 ((128 * ((j.val + 112 * g) / 4) + l.val) / 224)  := by
  have hi : (i 0).val < 14 := (i 0).isLt
  subst hg
  pointwise [k0_pay5, pay4_at i _ rfl]
  exact div_word (by omega)

/-- The pixel column's word. -/
theorem pay6_at (i : grid0.Coords) (g : ℕ) (hg : (i 0).val = g) (j : Fin 112) (l : Fin 128) :
    k0_pay6 i (ix2 j l) = BitVec.ofNat 32 ((128 * ((j.val + 112 * g) / 4) + l.val) % 224)  := by
  have hi : (i 0).val < 14 := (i 0).isLt
  subst hg
  pointwise [k0_pay6, pay5_at i _ rfl, pay4_at i _ rfl]
  exact mod_word (by omega)

variable (i : grid0.Coords) (x0 : Vec Ideal S3x4x3 .f32) (x1 : Vec Ideal S4x3 .f32) (x2 x3 : Vec Ideal S2x4 .f32)

/-- The rotations, from the block that holds them with the image in the middle. -/
def rot (x0 : Vec Ideal S3x4x3 .f32) (b : Fin 4) (c k : Fin 3) : EReal := x0 (ix3 c b k)
/-- The translations. -/
def tra (x1 : Vec Ideal S4x3 .f32) (b : Fin 4) (k : Fin 3) : EReal := x1 (ix2 b k)
/-- The focal lengths, or the principal points, from the block that holds them with the image last. -/
def cam (x2 : Vec Ideal S2x4 .f32) (b : Fin 4) (k : Fin 2) : EReal := x2 (ix2 k b)

/-- The choice among the four images' entries of the rotations' block. -/
theorem pick_rot (b : Fin 4) (c k : Fin 3) :
    Scalar.select (IntOp.cmpi .eq (BitVec.ofNat 32 b.val) 0#32) (x0 (ix3 c 0 k))
      (Scalar.select (IntOp.cmpi .eq (BitVec.ofNat 32 b.val) 1#32) (x0 (ix3 c 1 k))
        (Scalar.select (IntOp.cmpi .eq (BitVec.ofNat 32 b.val) 2#32) (x0 (ix3 c 2 k)) (x0 (ix3 c 3 k))))
      = rot x0 b c k := pick4 (fun b => x0 (ix3 c b k)) b

/-- The choice among the four images' entries of a camera block. -/
theorem pick_cam (b : Fin 4) (k : Fin 2) :
    Scalar.select (IntOp.cmpi .eq (BitVec.ofNat 32 b.val) 0#32) (x2 (ix2 k 0))
      (Scalar.select (IntOp.cmpi .eq (BitVec.ofNat 32 b.val) 1#32) (x2 (ix2 k 1))
        (Scalar.select (IntOp.cmpi .eq (BitVec.ofNat 32 b.val) 2#32) (x2 (ix2 k 2)) (x2 (ix2 k 3))))
      = cam x2 b k := pick4 (fun b => x2 (ix2 k b)) b

/-- The choice among the three components of a rotation's column. -/
theorem pick_comp (b : Fin 4) (c k : Fin 3) :
    Scalar.select (IntOp.cmpi .eq (BitVec.ofNat 32 c.val) 0#32) (rot x0 b 0 k)
      (Scalar.select (IntOp.cmpi .eq (BitVec.ofNat 32 c.val) 1#32) (rot x0 b 1 k) (rot x0 b 2 k))
      = rot x0 b c k := pick3 (fun c => rot x0 b c k) c

/-- The directions' block. -/
theorem block5 (g : ℕ) (hg : (i 0).val = g) (c : Fin 3) (j : Fin 112) (l : Fin 128) :
    out0_5 i x0 x1 x2 x3 (ix3 c j l)
      = direction (rot x0) (cam x2) (cam x3) (img (j.val + 112 * g))
          (128 * ((j.val + 112 * g) / 4) + l.val) c := by
  have hi : (i 0).val < 14 := (i 0).isLt
  rw [hg] at hi
  frame_out
  pointwise [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, pay3_at i g hg, pay5_at i g hg, pay6_at i g hg]
  generalize hb : img (j.val + 112 * g) = b
  rw [pick_cam x3 b 0, pick_cam x2 b 0, pick_cam x3 b 1, pick_cam x2 b 1]
  rw [pick_rot x0 b 0 0, pick_rot x0 b 0 1, pick_rot x0 b 0 2, pick_rot x0 b 1 0, pick_rot x0 b 1 1,
    pick_rot x0 b 1 2, pick_rot x0 b 2 0, pick_rot x0 b 2 1, pick_rot x0 b 2 2]
  rw [pick_comp x0 b c 0, pick_comp x0 b c 1, pick_comp x0 b c 2]
  rw [ndc_kernel _ (by omega), ndc_kernel _ (by omega)]
  rfl

/-- The origins' block. -/
theorem block4 (g : ℕ) (hg : (i 0).val = g) (c : Fin 3) (j : Fin 112) (l : Fin 128) :
    out0_4 i x0 x1 x2 x3 (ix3 c j l)
      = center (rot x0) (tra x1) (img (j.val + 112 * g)) c := by
  have hi : (i 0).val < 14 := (i 0).isLt
  rw [hg] at hi
  frame_out
  pointwise [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, pay3_at i g hg, pay5_at i g hg, pay6_at i g hg]
  generalize hb : img (j.val + 112 * g) = b
  simp only [zero_sub]
  refine (pick3 (fun c => Scalar.select (IntOp.cmpi .eq (BitVec.ofNat 32 b.val) 0#32) (center (rot x0) (tra x1) 0 c)
      (Scalar.select (IntOp.cmpi .eq (BitVec.ofNat 32 b.val) 1#32) (center (rot x0) (tra x1) 1 c)
        (Scalar.select (IntOp.cmpi .eq (BitVec.ofNat 32 b.val) 2#32) (center (rot x0) (tra x1) 2 c)
          (center (rot x0) (tra x1) 3 c)))) c).trans ?_
  exact pick4 (fun b => center (rot x0) (tra x1) b c) b

/-- The word of 127 compared: the last depth. -/
theorem depth_kernel (k : ℕ) (h : k < 2 ^ 31) (u v : EReal) :
    Scalar.select (IntOp.cmpi .eq (BitVec.ofNat 32 k) 127#32) u v = if k = 127 then u else v := by
  by_cases hk : k = 127
  · subst hk; rfl
  · have : BitVec.ofNat 32 k ≠ 127#32 := by
      intro hh
      have := congrArg BitVec.toNat hh
      simp at this; omega
    rw [if_neg hk]
    simp only [IntOp.cmpi, beq_eq_false_iff_ne.mpr this]
    rfl

/-- The depths' block: the same 128 depths on every row. -/
theorem block6 (c : Fin 2) (j : Fin 7168) (l : Fin 128) : out0_6 i x0 x1 x2 x3 (ix3 c j l) = depth l.val := by
  frame_out
  pointwise [k0_pay1, k0_pay133, k0_pay134]
  rw [depth_kernel _ (by omega), sitofp_nat _ (by omega)]
  rfl

/-- The table row's word of the coordinates' block, whose pairs of images start again after 7 steps. -/
theorem pay126_at (g : Fin 14) (j : Fin 112) (z : Fin 1) :
    k0_pay126 (BitVec.ofNat 32 g.val) (k0_pay144 i x0 x1 x2 x3) 7#32 (Scalar.cmpi .eq 7#32 0#32) 1#32 (ix2 j z)
      = BitVec.ofNat 32 (j.val + 112 * (g.val % 7)) := by
  pointwise [k0_pay126, k0_pay144, step_word g]
  exact row_word _ _

/-- The pixel number's word of the coordinates' block: chunk `r / 2` of row `r`. -/
theorem pay127_at (g : Fin 14) (j : Fin 112) (l : Fin 128) :
    k0_pay127 (BitVec.ofNat 32 g.val) (k0_pay135 i x0 x1 x2 x3) (k0_pay144 i x0 x1 x2 x3) 7#32
        (Scalar.cmpi .eq 7#32 0#32) 1#32 (ix2 j l)
      = BitVec.ofNat 32 (128 * ((j.val + 112 * (g.val % 7)) / 2) + l.val) := by
  pointwise [k0_pay127, pay126_at, k0_pay135]
  rw [show (1#32) = BitVec.ofNat 32 1 from rfl, shr_word (by omega) 1 (by omega), shl_word]
  exact word_add _ _

/-- The pixel row's word of the coordinates' block. -/
theorem pay128_at (g : Fin 14) (j : Fin 112) (l : Fin 128) :
    k0_pay128 (BitVec.ofNat 32 g.val) (k0_pay135 i x0 x1 x2 x3) (k0_pay144 i x0 x1 x2 x3) 7#32
        (Scalar.cmpi .eq 7#32 0#32) 1#32 (ix2 j l)
      = BitVec.ofNat 32 ((128 * ((j.val + 112 * (g.val % 7)) / 2) + l.val) / 224) := by
  pointwise [k0_pay128, pay127_at]
  exact div_word (by omega)

/-- A choice by the low bit of a word: the first on even rows. -/
theorem pick_low (n : ℕ) (u v : EReal) :
    Scalar.select (IntOp.cmpi .eq (BitVec.ofNat 32 (n % 2)) 0#32) u v = if n % 2 = 0 then u else v := by
  rcases Nat.mod_two_eq_zero_or_one n with h | h <;> rw [h] <;> rfl

/-- The coordinates' block: row `r` of a pair's table holds coordinate `r % 2` of chunk `r / 2`. -/
theorem block7 (g : ℕ) (hg : (i 0).val = g) (c : Fin 2) (j : Fin 112) (l : Fin 128) :
    out0_7 i x0 x1 x2 x3 (ix3 c j l)
      = coord (128 * ((j.val + 112 * (g % 7)) / 2) + l.val) ⟨(j.val + 112 * (g % 7)) % 2, by omega⟩ := by
  have hi : (i 0).val < 14 := (i 0).isLt
  rw [hg] at hi
  obtain ⟨g', rfl⟩ : ∃ g' : Fin 14, g'.val = g := ⟨⟨g, hi⟩, rfl⟩
  frame_out
  rw [hg]
  pointwise [k0_pay132, k0_pay131, k0_pay130, k0_pay129, pay128_at, pay127_at, pay126_at]
  rw [mod_word (by omega), ndc_kernel _ (by omega), ndc_kernel _ (by omega), low_one, pick_low]
  simp only [coord, Fin.ext_iff]
  rfl

end Cert.KernelIdeal.Rays
-- ==== Proof.Arrays.lean ====
module
public import proofs.«01_k».proof.Proof.Blocks
public import Idealize.ShloMosaic.Lib.Claim

/-! The four arrays the kernel leaves, each as one function of the camera arrays it was given. -/

@[expose] public section
set_option maxRecDepth 16384
noncomputable section
namespace Cert.KernelIdeal.Rays
open Cert.KernelIdeal Cert.KernelIdeal.Gen Cert.Rays
open Idealize.ShloMosaic Idealize.ShloMosaic.TcCoe Idealize.SL.Sem
open Idealize.ShloMosaic.Pipeline (Dat)

variable (m : (b : Loc nD τ sig) → Buf (Elt Ideal) b)

/-- Which block each window holds at grid point `t`. -/
theorem idx : ∀ t : Fin cfg0.N,
    win0_0.index t = ![0, 0, 0] ∧ win0_1.index t = ![0, 0] ∧ win0_2.index t = ![0, 0] ∧ win0_3.index t = ![0, 0]
      ∧ win0_4.index t = ![0, t.val, 0] ∧ win0_5.index t = ![0, t.val, 0]
      ∧ win0_6.index t = ![t.val / 7, t.val % 7, 0] ∧ win0_7.index t = ![t.val / 7, t.val % 7, 0] :=
  (by decide +kernel : ∀ t : Fin grid0.N, _)

/-- The grid's one coordinate is the point's number. -/
theorem coord_val : ∀ t : Fin cfg0.N, (grid0.coords t 0).val = t.val :=
  (by decide +kernel : ∀ t : Fin grid0.N, _)

/-- The origins' array. -/
def arr4 (x0 : Vec Ideal S3x4x3 .f32) (x1 : Vec Ideal S4x3 .f32) : Vec Ideal S3x1568x128 .f32 := fun y =>
  center (rot x0) (tra x1) (img (y 1).val) (y 0)

/-- The directions' array. -/
def arr5 (x0 : Vec Ideal S3x4x3 .f32) (x2 x3 : Vec Ideal S2x4 .f32) : Vec Ideal S3x1568x128 .f32 := fun y =>
  direction (rot x0) (cam x2) (cam x3) (img (y 1).val) (128 * ((y 1).val / 4) + (y 2).val) (y 0)

/-- The depths' array. -/
def arr6 : Vec Ideal S4x50176x128 .f32 := fun y => depth (y 2).val

/-- The coordinates' array. -/
def arr7 : Vec Ideal S4x784x128 .f32 := fun y =>
  coord (128 * ((y 1).val / 2) + (y 2).val) ⟨(y 1).val % 2, by omega⟩

/-- The rotations' block is the whole array. -/
theorem iblk0 (c : Dev nD) (t : Fin cfg0.N) : iblk m c 0 t = (V m c main_v0 : Vec Ideal S3x4x3 .f32) := by
  obtain ⟨h0, -⟩ := idx t
  funext y
  idx_vars y
  unfold iblk
  blk_simp
  congr 1
  blk_ext [h0]

/-- The translations' block is the whole array. -/
theorem iblk1 (c : Dev nD) (t : Fin cfg0.N) : iblk m c 1 t = (V m c main_arg1 : Vec Ideal S4x3 .f32) := by
  obtain ⟨-, h1, -⟩ := idx t
  funext y
  idx_vars y
  unfold iblk
  blk_simp
  congr 1
  blk_ext [h1]

/-- The focal lengths' block is the whole array. -/
theorem iblk2 (c : Dev nD) (t : Fin cfg0.N) : iblk m c 2 t = (V m c main_v1 : Vec Ideal S2x4 .f32) := by
  obtain ⟨-, -, h2, -⟩ := idx t
  funext y
  idx_vars y
  unfold iblk
  blk_simp
  congr 1
  blk_ext [h2]

/-- The principal points' block is the whole array. -/
theorem iblk3 (c : Dev nD) (t : Fin cfg0.N) : iblk m c 3 t = (V m c main_v2 : Vec Ideal S2x4 .f32) := by
  obtain ⟨-, -, -, h3, -⟩ := idx t
  funext y
  idx_vars y
  unfold iblk
  blk_simp
  congr 1
  blk_ext [h3]

/-- The origins' array after the last grid point. -/
theorem final4 (c : Dev nD) : (dats m 0 c).arrAt 4 cfg0.N = arr4 (V m c main_v0) (V m c main_arg1) := by
  refine (dats m 0 c).arrAt_eq_of_covers 4 _ (by decide +kernel) fun t _ y => ?_
  have h4 := (idx t).2.2.2.2.1
  have ht : t.val < 14 := t.isLt
  idx_vars y
  have e : (win0_4.blk t).view.emb (ix3 y0 y1 y2) = ix3 y0 ⟨y1.val + 112 * t.val, by omega⟩ y2 := by
    blk_ext [h4]
  blk_simp
  rw [after0_4, e, iblk0, iblk1, block4 _ _ _ _ _ _ (coord_val t)]
  rfl

/-- The directions' array after the last grid point. -/
theorem final5 (c : Dev nD) :
    (dats m 0 c).arrAt 5 cfg0.N = arr5 (V m c main_v0) (V m c main_v1) (V m c main_v2) := by
  refine (dats m 0 c).arrAt_eq_of_covers 5 _ (by decide +kernel) fun t _ y => ?_
  have h5 := (idx t).2.2.2.2.2.1
  have ht : t.val < 14 := t.isLt
  idx_vars y
  have e : (win0_5.blk t).view.emb (ix3 y0 y1 y2) = ix3 y0 ⟨y1.val + 112 * t.val, by omega⟩ y2 := by
    blk_ext [h5]
  blk_simp
  rw [after0_5, e, iblk0, iblk2, iblk3, block5 _ _ _ _ _ _ (coord_val t)]
  rfl

/-- The depths' array after the last grid point. -/
theorem final6 (c : Dev nD) : (dats m 0 c).arrAt 6 cfg0.N = arr6 := by
  refine (dats m 0 c).arrAt_eq_of_covers 6 _ (by decide +kernel) fun t _ y => ?_
  have h6 := (idx t).2.2.2.2.2.2.1
  have ht : t.val < 14 := t.isLt
  idx_vars y
  have e : (win0_6.blk t).view.emb (ix3 y0 y1 y2)
      = ix3 ⟨y0.val + 2 * (t.val / 7), by omega⟩ ⟨y1.val + 7168 * (t.val % 7), by omega⟩ y2 := by
    blk_ext [h6]
  blk_simp
  rw [after0_6, e, block6]
  rfl

/-- The coordinates' array after the last grid point. -/
theorem final7 (c : Dev nD) : (dats m 0 c).arrAt 7 cfg0.N = arr7 := by
  refine (dats m 0 c).arrAt_eq_of_covers 7 _ (by decide +kernel) fun t _ y => ?_
  have h7 := (idx t).2.2.2.2.2.2.2
  have ht : t.val < 14 := t.isLt
  idx_vars y
  have e : (win0_7.blk t).view.emb (ix3 y0 y1 y2)
      = ix3 ⟨y0.val + 2 * (t.val / 7), by omega⟩ ⟨y1.val + 112 * (t.val % 7), by omega⟩ y2 := by
    blk_ext [h7]
  blk_simp
  rw [after0_7, e, block7 _ _ _ _ _ _ (coord_val t)]
  rfl

end Cert.KernelIdeal.Rays
-- ==== Proof.KernelRun.lean ====
module
public import proofs.«01_k».proof.Proof.Arrays

/-! What the kernel's program returns: the four arrays through the host's reshapes and transposes. -/

@[expose] public section
set_option maxRecDepth 16384
noncomputable section
namespace Cert.KernelIdeal.Rays
open Cert.KernelIdeal Cert.KernelIdeal.Gen Cert.Rays
open Idealize.ShloMosaic Idealize.ShloMosaic.TcCoe Idealize.SL.Sem
open Idealize.ShloMosaic.Pipeline (Dat)

variable (m : (b : Loc nD τ sig) → Buf (Elt Ideal) b)

/-- The rotations the region is given, in the arguments' order. -/
theorem rot_entry (c : Dev nD) : rot (V m c main_v0) = arg3 (m ((c : Thread nD τ).loc main_arg0)) := by
  funext b i k
  unfold rot arg3 V V0
  simp only [hostOps0, List.flatten_cons, List.flatten_nil, List.append_nil]
  after_results
  pointwise

/-- The focal lengths the region is given, in the arguments' order. -/
theorem focal_entry (c : Dev nD) : cam (V m c main_v1) = arg2 (m ((c : Thread nD τ).loc main_arg2)) := by
  funext b k
  unfold cam arg2 V V0
  simp only [hostOps0, List.flatten_cons, List.flatten_nil, List.append_nil]
  after_results
  pointwise

/-- The translations the region is given are the argument. -/
theorem tra_entry (c : Dev nD) : tra (V m c main_arg1) = arg2 (m ((c : Thread nD τ).loc main_arg1)) := by
  rw [V_main_arg1]
  rfl

/-- The principal points the region is given, in the arguments' order. -/
theorem point_entry (c : Dev nD) : cam (V m c main_v2) = arg2 (m ((c : Thread nD τ).loc main_arg3)) := by
  funext b k
  unfold cam arg2 V V0
  simp only [hostOps0, List.flatten_cons, List.flatten_nil, List.append_nil]
  after_results
  pointwise

/-- The host's reshape, transpose and reshape of a three-component array: pixel `n` of image `b` lies in
    row `4 * (n / 128) + b`, lane `n % 128`. -/
theorem tail3 (A : Vec Ideal S3x1568x128 .f32) (b : Fin 4) (n : Fin 50176) (i : Fin 3) :
    shapeCast S4x50176x3 (transpose S4x392x128x3 [2, 1, 3, 0]
      (shapeCast S3x392x4x128 A shapeCasts_S3x1568x128_S3x392x4x128)
      transposes_S3x392x4x128_S4x392x128x3_2_1_3_0) shapeCasts_S4x392x128x3_S4x50176x3 (ix3 b n i)
      = A (ix3 i ⟨n.val / 128 * 4 + b.val, by omega⟩ ⟨n.val % 128, by omega⟩) := by
  pointwise

/-- The same of the two-coordinate array: coordinate `k` of pixel `n` lies in row `2 * (n / 128) + k`. -/
theorem tail2 (A : Vec Ideal S4x784x128 .f32) (b : Fin 4) (n : Fin 50176) (k : Fin 2) :
    shapeCast S4x50176x2 (transpose S4x392x128x2 [0, 1, 3, 2]
      (shapeCast S4x392x2x128 A shapeCasts_S4x784x128_S4x392x2x128)
      transposes_S4x392x2x128_S4x392x128x2_0_1_3_2) shapeCasts_S4x392x128x2_S4x50176x2 (ix3 b n k)
      = A (ix3 b ⟨n.val / 128 * 2 + k.val, by omega⟩ ⟨n.val % 128, by omega⟩) := by
  pointwise

/-- The image of the row a pixel lies in. -/
theorem img_row (b : Fin 4) (n : ℕ) : img (n / 128 * 4 + b.val) = b := by
  apply Fin.ext
  show (n / 128 * 4 + b.val) % 4 = b.val
  omega

/-- The pixel number of the row and lane a pixel lies in. -/
theorem pixel_row (b : Fin 4) (n : ℕ) : 128 * ((n / 128 * 4 + b.val) / 4) + n % 128 = n := by omega

/-- The host reads, after the region, the array of each window. -/
theorem region_arr (c : Dev nD) (w : Fin cfg0.W) :
    Pipeline.withArrays (cfgs 0).spec c (V0 m c) (fun w => (dats m 0 c).arrAt w (cfgs 0).N)
      (Proc.devRef .tc (Pipeline.arrRef spec0 w)) = (dats m 0 c).arrAt w cfg0.N :=
  Pipeline.withArrays_arr spec0 launch0.win.arr_inj c (V0 m c) _ w

/-- The first result of the kernel's program. -/
theorem res6 (c : Dev nD) :
    Pipeline.afterTail₀ cfgs (dats m) 0 (V0 m) [hostOps1] c main_v6
      = origins (m ((c : Thread nD τ).loc main_arg0)) (m ((c : Thread nD τ).loc main_arg1)) := by
  unfold Pipeline.afterTail₀
  simp only [hostOps1, List.flatten_cons, List.flatten_nil, List.append_nil]
  after_results
  rw [show Pipeline.withArrays (cfgs 0).spec c (V0 m c) (fun w => (dats m 0 c).arrAt w (cfgs 0).N)
    (Proc.tc.devRef main_v3_0) = _ from (region_arr m c 4).trans (final4 m c)]
  funext y
  idx_vars y
  refine (tail3 _ y0 y1 y2).trans ?_
  show center (rot (V m c main_v0)) (tra (V m c main_arg1)) (img (y1.val / 128 * 4 + y0.val)) y2 = _
  rw [img_row, rot_entry, tra_entry]
  rfl

/-- The second result of the kernel's program. -/
theorem res9 (c : Dev nD) :
    Pipeline.afterTail₀ cfgs (dats m) 0 (V0 m) [hostOps1] c main_v9
      = directions (m ((c : Thread nD τ).loc main_arg0)) (m ((c : Thread nD τ).loc main_arg2))
          (m ((c : Thread nD τ).loc main_arg3)) := by
  unfold Pipeline.afterTail₀
  simp only [hostOps1, List.flatten_cons, List.flatten_nil, List.append_nil]
  after_results
  rw [show Pipeline.withArrays (cfgs 0).spec c (V0 m c) (fun w => (dats m 0 c).arrAt w (cfgs 0).N)
    (Proc.tc.devRef main_v3_1) = _ from (region_arr m c 5).trans (final5 m c)]
  funext y
  idx_vars y
  refine (tail3 _ y0 y1 y2).trans ?_
  show direction (rot (V m c main_v0)) (cam (V m c main_v1)) (cam (V m c main_v2)) (img (y1.val / 128 * 4 + y0.val))
    (128 * ((y1.val / 128 * 4 + y0.val) / 4) + y1.val % 128) y2 = _
  rw [img_row, pixel_row, rot_entry, focal_entry, point_entry]
  rfl

/-- The fourth result of the kernel's program. -/
theorem res12 (c : Dev nD) :
    Pipeline.afterTail₀ cfgs (dats m) 0 (V0 m) [hostOps1] c main_v12 = coords := by
  unfold Pipeline.afterTail₀
  simp only [hostOps1, List.flatten_cons, List.flatten_nil, List.append_nil]
  after_results
  rw [show Pipeline.withArrays (cfgs 0).spec c (V0 m c) (fun w => (dats m 0 c).arrAt w (cfgs 0).N)
    (Proc.tc.devRef main_v3_3) = _ from (region_arr m c 7).trans (final7 m c)]
  funext y
  idx_vars y
  refine (tail2 _ y0 y1 y2).trans ?_
  show coord (128 * ((y1.val / 128 * 2 + y2.val) / 2) + y1.val % 128) ⟨(y1.val / 128 * 2 + y2.val) % 2, _⟩
    = coord y1.val y2
  congr 1
  · omega
  · apply Fin.ext
    show (y1.val / 128 * 2 + y2.val) % 2 = y2.val
    omega

/-- What the kernel's program leaves in its four results: the four formulas at its arguments. -/
theorem returns (ρ : Dev nD → PrngReg) :
    θ_run (defs (F := Ideal)) (onTc (τ := τ) (main (F := Ideal))) ⟨m, fun _ => 0, ρ⟩ (fun r => ∀ c : Dev nD,
      r.2.mem ((c : Thread nD τ).loc main_v6)
        = origins (m ((c : Thread nD τ).loc main_arg0)) (m ((c : Thread nD τ).loc main_arg1))
      ∧ r.2.mem ((c : Thread nD τ).loc main_v9)
        = directions (m ((c : Thread nD τ).loc main_arg0)) (m ((c : Thread nD τ).loc main_arg2))
            (m ((c : Thread nD τ).loc main_arg3))
      ∧ r.2.mem ((c : Thread nD τ).loc main_v3_2) = lengths
      ∧ r.2.mem ((c : Thread nD τ).loc main_v12) = coords) :=
  (θ_run defs _ _).mono (fun _ h c => ⟨
    ((h c).2 main_v6 (Pipeline.mem_restRefs_of main_v6 (by decide) (by decide))).trans (res6 m c),
    ((h c).2 main_v9 (Pipeline.mem_restRefs_of main_v9 (by decide) (by decide))).trans (res9 m c),
    ((h c).1 6).trans (final6 m c),
    ((h c).2 main_v12 (Pipeline.mem_restRefs_of main_v12 (by decide) (by decide))).trans (res12 m c)⟩) (run_main m ρ)

end Cert.KernelIdeal.Rays
-- ==== Proof.Reference.lean ====
module
public import proofs.«01_k».proof.Proof.Gen.ReferenceIdeal.Run
public import proofs.«01_k».proof.Proof.Gen.ReferenceIdeal.Read
public import proofs.«01_k».proof.Proof.Formula

/-! What the reference returns, read at an index: the same formulas. -/

@[expose] public section
set_option maxRecDepth 16384
noncomputable section
namespace Cert.ReferenceIdeal.Rays
open Cert.ReferenceIdeal Cert.ReferenceIdeal.Gen Cert.ReferenceIdeal.Read Cert.Rays
open Idealize.ShloMosaic Idealize.ShloMosaic.TcCoe Idealize.SL.Sem

/-- The reference's coordinates: 1 at the last one, `-1 * (1 - t) + 1 * t` with `t = k / 223` before it. -/
theorem line_at (k : Fin 224) : val_main_v0 (F := Ideal) (ix1 k) = ndc k.val := by
  pointwise [val_main_v0, val_main_call0_v15, val_main_call0_v16, val_main_call0_v14, val_main_call0_v13, val_main_call0_v12, val_main_call0_v11, val_main_call0_v10, val_main_call0_v9, val_main_call0_v8, val_main_call0_v7, val_main_call0_v6, val_main_call0_v5, val_main_call0_v4, val_main_call0_cst, val_main_call0_cst_0, val_main_call0_cst_1, val_main_call0_v0, val_main_call0_v1, val_main_cst, val_main_cst_0]
  rw [show (id (constant (F := Ideal) S_ .f32 0xBF800000#32) ix0 : EReal) = ((-1 : ℝ) : EReal) from ofBits_neg_one,
    show (id (constant (F := Ideal) S_ .f32 0x3F800000#32) ix0 : EReal) = ((1 : ℝ) : EReal) from ofBits_one,
    sitofp_nat _ (by omega), ofBits_223, Ideal.div_coe (by norm_num), show (1 : EReal) = ((1 : ℝ) : EReal) from rfl]
  simp only [← EReal.coe_mul, ← EReal.coe_sub, ← EReal.coe_add]
  unfold ndc
  split_ifs with h
  · congr 1; ring
  · have hk : k.val = 223 := by omega
    rw [hk]
    congr 1; norm_num

/-- The rows' coordinates are the columns'. -/
theorem line_eq : val_main_v1 (F := Ideal) = val_main_v0 := rfl

/-- The reference's depths. -/
theorem depth_at (k : Fin 128) : val_main_v7 (F := Ideal) (ix1 k) = depth k.val := by
  pointwise [val_main_v7, val_main_call2_v15, val_main_call2_v16, val_main_call2_v14, val_main_call2_v13, val_main_call2_v12, val_main_call2_v11, val_main_call2_v10, val_main_call2_v9, val_main_call2_v8, val_main_call2_v7, val_main_call2_v6, val_main_call2_v5, val_main_call2_v4, val_main_call2_cst, val_main_call2_cst_0, val_main_call2_cst_1, val_main_call2_v0, val_main_call2_v1, val_main_cst_3, val_main_cst_4]
  rw [sitofp_nat _ (by omega)]
  unfold depth
  by_cases h : k.val < 127
  · rw [dif_pos h, if_neg (by omega)]
    rfl
  · rw [dif_neg h, if_pos (by omega)]
    rfl

/-- The grid of coordinates. -/
theorem grid_at (h w : Fin 224) (c : Fin 2) :
    val_main_v6 (F := Ideal) (ix3 h w c) = if c = 0 then ndc w.val else ndc h.val := by
  pointwise [val_main_v6, val_main_v5, val_main_v4, val_main_v3, val_main_v2, line_eq, line_at]
  by_cases hc : c = 0
  · rw [if_pos hc, dif_pos (by rw [hc]; decide)]
  · rw [if_neg hc, dif_neg (fun h => hc (Fin.ext (by show c.val = 0; omega)))]

/-- The reference's horizontal camera coordinate. -/
theorem camX_at (f p : FVec Ideal S4x2 .f32) (b : Fin 4) (h w : Fin 224) :
    val_main_v27 (F := Ideal) f p (ix3 b h w) = Ideal.div (ndc w.val - p (ix2 b 0)) (f (ix2 b 0)) := by
  pointwise [val_main_v27, val_main_v26, val_main_v25, val_main_v24, val_main_v23, val_main_v22, val_main_v21,
    val_main_v20, val_main_v16, val_main_v15, val_main_v14, val_main_v10, val_main_v9, val_main_v8, grid_at]

/-- The reference's vertical camera coordinate. -/
theorem camY_at (f p : FVec Ideal S4x2 .f32) (b : Fin 4) (h w : Fin 224) :
    val_main_v35 (F := Ideal) f p (ix3 b h w) = Ideal.div (ndc h.val - p (ix2 b 1)) (f (ix2 b 1)) := by
  pointwise [val_main_v35, val_main_v34, val_main_v33, val_main_v32, val_main_v31, val_main_v30, val_main_v29,
    val_main_v28, val_main_v19, val_main_v18, val_main_v17, val_main_v13, val_main_v12, val_main_v11, grid_at]

/-- The reference's rotated ray. -/
theorem rotated_at (R : FVec Ideal S4x3x3 .f32) (f p : FVec Ideal S4x2 .f32) (b : Fin 4) (h w : Fin 224) (i : Fin 3) :
    val_main_v41 (F := Ideal) R f p (ix4 b h w i)
      = Ideal.div (ndc w.val - p (ix2 b 0)) (f (ix2 b 0)) * R (ix3 b i 0)
        + (Ideal.div (ndc h.val - p (ix2 b 1)) (f (ix2 b 1)) * R (ix3 b i 1) + R (ix3 b i 2)) := by
  pointwise [val_main_v41, val_main_v40, val_main_v39, val_main_v38, val_main_v37, val_main_v36, val_main_cst_5,
    camX_at, camY_at]
  rw [Fin.sum_univ_three, add_assoc]
  simp

/-- The first result of the reference. -/
theorem origins_at (R : FVec Ideal S4x3x3 .f32) (T : FVec Ideal S4x3 .f32) :
    val_main_v54 (F := Ideal) R T = origins R T := by
  funext y
  idx_vars y
  pointwise [val_main_v54, val_main_v45, val_main_v44, val_main_v43, val_main_v42]
  rw [Fin.sum_univ_three]
  show _ = -(R (ix3 y0 y2 0) * T (ix2 y0 0) + R (ix3 y0 y2 1) * T (ix2 y0 1) + R (ix3 y0 y2 2) * T (ix2 y0 2))
  rw [mul_comm (R (ix3 y0 y2 0)), mul_comm (R (ix3 y0 y2 1)), mul_comm (R (ix3 y0 y2 2))]

/-- The second result of the reference. -/
theorem directions_at (R : FVec Ideal S4x3x3 .f32) (f p : FVec Ideal S4x2 .f32) :
    val_main_v55 (F := Ideal) R f p = directions R f p := by
  funext y
  idx_vars y
  pointwise [val_main_v55, val_main_v49, val_main_v48, val_main_v47, val_main_v46, rotated_at]
  rfl

/-- The third result of the reference. -/
theorem lengths_at : val_main_v56 (F := Ideal) = lengths := by
  funext y
  idx_vars y
  pointwise [val_main_v56, val_main_v51, val_main_v50, depth_at]
  rfl

/-- The fourth result of the reference. -/
theorem coords_at : val_main_v57 (F := Ideal) = coords := by
  funext y
  idx_vars y
  pointwise [val_main_v57, val_main_v53, val_main_v52, grid_at]
  rfl

/-- What the reference leaves in its four results, its arguments unchanged: the same formulas at its arguments. -/
theorem returns (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v54)
        = origins (m ((c : Thread nD τ).loc main_arg0)) (m ((c : Thread nD τ).loc main_arg1))
      ∧ r.2.mem ((c : Thread nD τ).loc main_v55)
        = directions (m ((c : Thread nD τ).loc main_arg0)) (m ((c : Thread nD τ).loc main_arg2))
            (m ((c : Thread nD τ).loc main_arg3))
      ∧ r.2.mem ((c : Thread nD τ).loc main_v56) = lengths
      ∧ r.2.mem ((c : Thread nD τ).loc main_v57) = coords
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨
    (h c).1.trans ((val_main_v54_eq _ _).trans (origins_at _ _)),
    (h c).2.1.trans ((val_main_v55_eq m c).trans (directions_at _ _ _)),
    (h c).2.2.1.trans (val_main_v56_eq.trans lengths_at),
    (h c).2.2.2.1.trans (val_main_v57_eq.trans coords_at),
    (h c).2.2.2.2⟩) (Cert.ReferenceIdeal.Value.run m ρ)

end Cert.ReferenceIdeal.Rays
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Reference
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Rays

/-- The reference runs and leaves its arguments alone; it has no semaphores, so every counter is at zero. -/
theorem reference_frame : Cert.quiescent_ReferenceIdeal (hReferenceIdeal := Cert.ReferenceIdeal.Gen.facts) := by
  intro m g _
  refine θ_run_mono (Cert.ReferenceIdeal.Rays.returns m g) ?_
  exact fun r h => ⟨fun c => (h c).2.2.2.2, sem_eq_zero_of_no_sems (by decide) r.2⟩

/-- The kernel and the reference return the same four arrays, whatever the arguments: each of them returns
    `origins`, `directions`, `lengths` and `coords`. -/
theorem same_results : Cert.algebraic_KernelIdeal_ReferenceIdeal (hKernelIdeal := Cert.KernelIdeal.Gen.facts)
    (hReferenceIdeal := Cert.ReferenceIdeal.Gen.facts) := by
  intro m g m' g' _ hagree
  refine ⟨fun c => origins (m ((c : Thread Cert.KernelIdeal.nD Cert.KernelIdeal.τ).loc Cert.KernelIdeal.main_arg0))
      (m ((c : Thread Cert.KernelIdeal.nD Cert.KernelIdeal.τ).loc Cert.KernelIdeal.main_arg1)),
    fun c => directions (m ((c : Thread Cert.KernelIdeal.nD Cert.KernelIdeal.τ).loc Cert.KernelIdeal.main_arg0))
      (m ((c : Thread Cert.KernelIdeal.nD Cert.KernelIdeal.τ).loc Cert.KernelIdeal.main_arg2))
      (m ((c : Thread Cert.KernelIdeal.nD Cert.KernelIdeal.τ).loc Cert.KernelIdeal.main_arg3)),
    fun _ => lengths, fun _ => coords, ?_, ?_⟩
  · refine θ_run_mono (θ_run_and (Cert.KernelIdeal.Rays.returns m g) (Cert.KernelIdeal.Gen.unchanged m g)) ?_
    exact fun r h c => ⟨(h.1 c).1, (h.1 c).2.1, (h.1 c).2.2.1, (h.1 c).2.2.2, h.2 c⟩
  · refine θ_run_mono (Cert.ReferenceIdeal.Rays.returns m' g') ?_
    intro r h c
    obtain ⟨h0, h1, h2, h3⟩ := hagree c
    obtain ⟨ho, hd, hl, hx, ha⟩ := h c
    refine ⟨ho.trans ?_, hd.trans ?_, hl, hx, ha⟩
    · exact congrArg₂ origins h0 h1
    · show directions _ _ _ = directions _ _ _
      congr 1

/-- The five claims: three frames, the idealization, and the equality of the four results. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial,
  same_results⟩

end Cert.Proof

end
